-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x128 : Shape := ⟨2, ![100000, 128]⟩
abbrev S100000 : Shape := ⟨1, ![100000]⟩
abbrev S128x1 : Shape := ⟨2, ![128, 1]⟩
abbrev S1 : Shape := ⟨1, ![1]⟩
abbrev S100000x1 : Shape := ⟨2, ![100000, 1]⟩
abbrev S1x1 : Shape := ⟨2, ![1, 1]⟩
abbrev S512x128 : Shape := ⟨2, ![512, 128]⟩
abbrev S2000x128 : Shape := ⟨2, ![2000, 128]⟩
abbrev S2000x1 : Shape := ⟨2, ![2000, 1]⟩
abbrev S512x1 : Shape := ⟨2, ![512, 1]⟩
abbrev S1x512 : Shape := ⟨2, ![1, 512]⟩
abbrev S2000x512 : Shape := ⟨2, ![2000, 512]⟩

abbrev nBuf : Space → Nat
  | .hbm => 7
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x1, .f32⟩
  | .hbm, ⟨3, _⟩ => ⟨S1, .f32⟩
  | .hbm, ⟨4, _⟩ => ⟨S100000x1, .i32⟩
  | .hbm, ⟨5, _⟩ => ⟨S1x1, .f32⟩
  | .hbm, ⟨6, _⟩ => ⟨S512x128, .f32⟩
  | .local _ .vmem, ⟨0, _⟩ => ⟨S2000x128, .f32⟩
  | .local _ .vmem, ⟨1, _⟩ => ⟨S2000x128, .f32⟩
  | .local _ .vmem, ⟨2, _⟩ => ⟨S2000x1, .i32⟩
  | .local _ .vmem, ⟨3, _⟩ => ⟨S2000x1, .i32⟩
  | .local _ .vmem, ⟨4, _⟩ => ⟨S128x1, .f32⟩
  | .local _ .vmem, ⟨5, _⟩ => ⟨S1x1, .f32⟩
  | .local _ .vmem, ⟨6, _⟩ => ⟨S512x128, .f32⟩
  | .local _ .vmem, ⟨7, _⟩ => ⟨S512x128, .f32⟩
  | .local _ .vmem, ⟨8, _⟩ => ⟨S512x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v33 : BitVec 1 := Scalar.cmpi .eq arg0 c49_i32
  let v34 : BitVec 32 := Scalar.extui v33
  let c0_i32_18 : BitVec 32 := 0#32
  let v35 : BitVec 1 := Scalar.cmpi .ne v34 c0_i32_18
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S100000x128 : Shape := ⟨2, ![100000, 128]⟩
abbrev S100000 : Shape := ⟨1, ![100000]⟩
abbrev S128x1 : Shape := ⟨2, ![128, 1]⟩
abbrev S1 : Shape := ⟨1, ![1]⟩
abbrev S100000x1 : Shape := ⟨2, ![100000, 1]⟩
abbrev S1x1 : Shape := ⟨2, ![1, 1]⟩
abbrev S512 : Shape := ⟨1, ![512]⟩
abbrev S1x512 : Shape := ⟨2, ![1, 512]⟩
abbrev S100000x512 : Shape := ⟨2, ![100000, 512]⟩
abbrev S_ : Shape := ⟨0, ![]⟩
abbrev S512x1 : Shape := ⟨2, ![512, 1]⟩
abbrev S512x128 : Shape := ⟨2, ![512, 128]⟩

abbrev nBuf : Space → Nat
  | .hbm => 76
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x1, .f32⟩
  | .hbm, ⟨3, _⟩ => ⟨S1, .f32⟩
  | .hbm, ⟨4, _⟩ => ⟨S100000x1, .f32⟩
  | .hbm, ⟨5, _⟩ => ⟨S1x1, .f32⟩
  | .hbm, ⟨6, _⟩ => ⟨S100000x1, .f32⟩
  | .hbm, ⟨7, _⟩ => ⟨S100000x1, .f32⟩
  | .hbm, ⟨8, _⟩ => ⟨S100000x1, .i32⟩
  | .hbm, ⟨9, _⟩ => ⟨S512, .i32⟩
  | .hbm, ⟨10, _⟩ => ⟨S1x512, .i32⟩
  | .hbm, ⟨11, _⟩ => ⟨S100000x512, .i32⟩
  | .hbm, ⟨12, _⟩ => ⟨S100000x512, .i32⟩
  | .hbm, ⟨13, _⟩ => ⟨S100000x512, .i1⟩
  | .hbm, ⟨14, _⟩ => ⟨S_, .f32⟩
  | .hbm, ⟨15, _⟩ => ⟨S_, .f32⟩
  | .hbm, ⟨16, _⟩ => ⟨S100000x512, .f32⟩
  | .hbm, ⟨17, _⟩ => ⟨S100000x512, .f32⟩
  | .hbm, ⟨18, _⟩ => ⟨S100000x512, .f32⟩
  | .hbm, ⟨19, _⟩ => ⟨S_, .f32⟩
  | .hbm, ⟨20, _⟩ => ⟨S512, .f32⟩
  | .hbm, ⟨21, _⟩ => ⟨S512x1, .f32⟩
  | .hbm, ⟨22, _⟩ => ⟨S512x1, .f32⟩
  | .hbm, ⟨23, _⟩ => ⟨S_, .f32⟩
  | .hbm, ⟨24, _⟩ => ⟨S512x1, .f32⟩
  | .hbm, ⟨25, _⟩ => ⟨S512x1, .i1⟩
  | .hbm, ⟨26, _⟩ => ⟨S_, .f32⟩
  | .hbm, ⟨27, _⟩ => ⟨S_, .f32⟩
  | .hbm, ⟨28, _⟩ => ⟨S512x1, .f32⟩
  | .hbm, ⟨29, _⟩ => ⟨S512x1, .f32⟩
  | .hbm, ⟨30, _⟩ => ⟨S_, .i32⟩
  | .hbm, ⟨31, _⟩ => ⟨S100000, .i32⟩
  | .hbm, ⟨32, _⟩ => ⟨S100000, .i1⟩
  | .hbm, ⟨33, _⟩ => ⟨S_, .i32⟩
  | .hbm, ⟨34, _⟩ => ⟨S100000, .i32⟩
  | .hbm, ⟨35, _⟩ => ⟨S100000, .i32⟩
  | .hbm, ⟨36, _⟩ => ⟨S100000, .i32⟩
  | .hbm, ⟨37, _⟩ => ⟨S100000x1, .i32⟩
  | .hbm, ⟨38, _⟩ => ⟨S100000x1, .f32⟩
  | .hbm, ⟨39, _⟩ => ⟨S100000x1, .f32⟩
  | .hbm, ⟨40, _⟩ => ⟨S100000x1, .f32⟩
  | .hbm, ⟨41, _⟩ => ⟨S_, .f32⟩
  | .hbm, ⟨42, _⟩ => ⟨S512x1, .f32⟩
  | .hbm, ⟨43, _⟩ => ⟨S100000x1, .i32⟩
  | .hbm, ⟨44, _⟩ => ⟨S512x1, .f32⟩
  | .hbm, ⟨45, _⟩ => ⟨S_, .i32⟩
  | .hbm, ⟨46, _⟩ => ⟨S100000, .i32⟩
  | .hbm, ⟨47, _⟩ => ⟨S100000, .i1⟩
  | .hbm, ⟨48, _⟩ => ⟨S_, .i32⟩
  | .hbm, ⟨49, _⟩ => ⟨S100000, .i32⟩
  | .hbm, ⟨50, _⟩ => ⟨S100000, .i32⟩
  | .hbm, ⟨51, _⟩ => ⟨S100000, .i32⟩
  | .hbm, ⟨52, _⟩ => ⟨S100000x1, .i32⟩
  | .hbm, ⟨53, _⟩ => ⟨S100000x1, .f32⟩
  | .hbm, ⟨54, _⟩ => ⟨S_, .i32⟩
  | .hbm, ⟨55, _⟩ => ⟨S100000, .i32⟩
  | .hbm, ⟨56, _⟩ => ⟨S100000, .i1⟩
  | .hbm, ⟨57, _⟩ => ⟨S_, .i32⟩
  | .hbm, ⟨58, _⟩ => ⟨S100000, .i32⟩
  | .hbm, ⟨59, _⟩ => ⟨S100000, .i32⟩
  | .hbm, ⟨60, _⟩ => ⟨S100000, .i32⟩
  | .hbm, ⟨61, _⟩ => ⟨S100000x1, .i32⟩
  | .hbm, ⟨62, _⟩ => ⟨S100000x1, .f32⟩
  | .hbm, ⟨63, _⟩ => ⟨S100000x1, .f32⟩
  | .hbm, ⟨64, _⟩ => ⟨S100000x1, .f32⟩
  | .hbm, ⟨65, _⟩ => ⟨S_, .f32⟩
  | .hbm, ⟨66, _⟩ => ⟨S100000x1, .f32⟩
  | .hbm, ⟨67, _⟩ => ⟨S100000x1, .f32⟩
  | .hbm, ⟨68, _⟩ => ⟨S100000x1, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S512x128, .f32⟩
  | .hbm, ⟨74, _⟩ => ⟨S100000x1, .i32⟩
  | .hbm, ⟨75, _⟩ => ⟨S512x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call1_v0 : Ref sig .tc := ⟨.hbm, 27, rfl⟩
abbrev main_call1_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]
-- ==== Proof.PoolStep.lean ====
/- What one grid point of the kernel leaves in its two carried buffers and, at the last point, in its output block: the
   printed payloads of the point's four input blocks and of what the point before left. -/
module

public import proofs.«01_k».proof.Proof.Gen.KernelIdeal.Value
public import Idealize.ShloMosaic.Lib.Pipeline.Value
public import Idealize.ShloMosaic.Lib.Tactic

@[expose] public section

noncomputable section

namespace Cert.Pool

open Cert.KernelIdeal Cert.KernelIdeal.Gen Idealize.ShloMosaic Idealize.ShloMosaic.TcCoe Idealize.SL.Sem

variable {F : FTy → Type} [FloatOps F]

/-- The offsets of a whole two-axis block are zero. -/
theorem offs_zero : (![0, 0] : Fin 2 → Nat) = fun _ => 0 := funext fun a => by fin_cases a <;> rfl

section
variable (c : Dev nD) (i : grid0.Coords)
  (a1 : Memref sig .tc .vmem S2000x128 .f32) (h1 : a1.IsWhole) (a2 : Memref sig .tc .vmem S2000x1 .i32) (h2 : a2.IsWhole)
  (a3 : Memref sig .tc .vmem S128x1 .f32) (h3 : a3.IsWhole) (a4 : Memref sig .tc .vmem S1x1 .f32) (h4 : a4.IsWhole)
  (a5 : Memref sig .tc .vmem S512x128 .f32) (h5 : a5.IsWhole) (a6 : Memref sig .tc .vmem S512x128 .f32) (h6 : a6.IsWhole)
  (a7 : Memref sig .tc .vmem S512x1 .f32) (h7 : a7.IsWhole)
  (x : Vec F S2000x128 .f32) (b : Vec F S2000x1 .i32) (W : Vec F S128x1 .f32) (g : Vec F S1x1 .f32)
  (acc : Vec F S512x128 .f32) (den : Vec F S512x1 .f32)

/-- The first point leaves the zero block plus its weighted rows in the row accumulator. -/
theorem rows_first (hc0 : cond0_0 i) (hc1 : ¬cond0_1 i) :
    sout0_A_0 c i a1 h1 a2 h2 a3 h3 a4 h4 a5 h5 a6 h6 a7 h7 hc0 hc1 x b W g = k0_pay6 x b W g (k0_pay2 (F := F)) := by
  unfold sout0_A_0
  rw [View.read_writes_eq_canon _ _ _ (scover0_A_0 c i a1 h1 a2 h2 a3 h3 a4 h4 a5 h5 a6 h6 a7 h7 hc0 hc1 x b W g)]
  unfold kernelRun0_A
  dsimp only
  sl_unfold_words
  rw [View.canon_cons_unit_zero (S := S512x128) offs_zero, View.readCov_unit_zero (S := S512x128) _ offs_zero]
  simp only [View.readAt_eq_ld, h1.read_unread, h2.read_unread, h3.read_unread, h4.read_unread,
    View.ld_unit_zero (S := S2000x128) offs_zero, View.ld_unit_zero (S := S2000x1) offs_zero,
    View.ld_unit_zero (S := S128x1) offs_zero, View.ld_unit_zero (S := S1x1) offs_zero]

/-- The first point leaves the zero column plus its weights in the normalizer. -/
theorem norm_first (hc0 : cond0_0 i) (hc1 : ¬cond0_1 i) :
    sout0_A_1 c i a1 h1 a2 h2 a3 h3 a4 h4 a5 h5 a6 h6 a7 h7 hc0 hc1 x b W g = k0_pay7 x b W g (k0_pay3 (F := F)) := by
  unfold sout0_A_1
  rw [View.read_writes_eq_canon _ _ _ (scover0_A_1 c i a1 h1 a2 h2 a3 h3 a4 h4 a5 h5 a6 h6 a7 h7 hc0 hc1 x b W g)]
  unfold kernelRun0_A
  dsimp only
  sl_unfold_words
  rw [View.canon_cons_unit_zero (S := S512x1) offs_zero, View.readCov_unit_zero (S := S512x1) _ offs_zero]
  simp only [View.readAt_eq_ld, h1.read_unread, h2.read_unread, h3.read_unread, h4.read_unread,
    View.ld_unit_zero (S := S2000x128) offs_zero, View.ld_unit_zero (S := S2000x1) offs_zero,
    View.ld_unit_zero (S := S128x1) offs_zero, View.ld_unit_zero (S := S1x1) offs_zero]

/-- A middle point adds its weighted rows to the row accumulator. -/
theorem rows_middle (hc0 : ¬cond0_0 i) (hc1 : ¬cond0_1 i) :
    sout0_B_0 c i a1 h1 a2 h2 a3 h3 a4 h4 a5 h5 a6 h6 a7 h7 hc0 hc1 x b W g acc den = k0_pay6 x b W g acc := by
  unfold sout0_B_0
  rw [View.read_writes_eq_canon _ _ _ (scover0_B_0 c i a1 h1 a2 h2 a3 h3 a4 h4 a5 h5 a6 h6 a7 h7 hc0 hc1 x b W g acc den)]
  unfold kernelRun0_B
  dsimp only
  sl_unfold_words
  rw [View.canon_unit_zero offs_zero]
  simp only [View.readAt_eq_ld, h1.read_unread, h2.read_unread, h3.read_unread, h4.read_unread, h6.read_unread,
    View.ld_unit_zero (S := S2000x128) offs_zero, View.ld_unit_zero (S := S2000x1) offs_zero,
    View.ld_unit_zero (S := S128x1) offs_zero, View.ld_unit_zero (S := S1x1) offs_zero,
    View.ld_unit_zero (S := S512x128) offs_zero]

/-- A middle point adds its weights to the normalizer. -/
theorem norm_middle (hc0 : ¬cond0_0 i) (hc1 : ¬cond0_1 i) :
    sout0_B_1 c i a1 h1 a2 h2 a3 h3 a4 h4 a5 h5 a6 h6 a7 h7 hc0 hc1 x b W g acc den = k0_pay7 x b W g den := by
  unfold sout0_B_1
  rw [View.read_writes_eq_canon _ _ _ (scover0_B_1 c i a1 h1 a2 h2 a3 h3 a4 h4 a5 h5 a6 h6 a7 h7 hc0 hc1 x b W g acc den)]
  unfold kernelRun0_B
  dsimp only
  sl_unfold_words
  rw [View.canon_unit_zero offs_zero]
  simp only [View.readAt_eq_ld, h1.read_unread, h2.read_unread, h3.read_unread, h4.read_unread, h7.read_unread,
    View.ld_unit_zero (S := S2000x128) offs_zero, View.ld_unit_zero (S := S2000x1) offs_zero,
    View.ld_unit_zero (S := S128x1) offs_zero, View.ld_unit_zero (S := S1x1) offs_zero,
    View.ld_unit_zero (S := S512x1) offs_zero]

/-- The last point writes the quotient of the two finished accumulators to the output block. -/
theorem out_last (hc0 : ¬cond0_0 i) (hc1 : cond0_1 i) :
    out0_C_4 c i a1 h1 a2 h2 a3 h3 a4 h4 a5 h5 a6 h6 a7 h7 hc0 hc1 x b W g acc den
      = k0_pay1 (k0_pay6 x b W g acc) (k0_pay7 x b W g den) := by
  unfold out0_C_4
  rw [View.read_writes_eq_canon _ _ _ (cover0_C_4 c i a1 h1 a2 h2 a3 h3 a4 h4 a5 h5 a6 h6 a7 h7 hc0 hc1 x b W g acc den)]
  unfold kernelRun0_C
  dsimp only
  sl_unfold_words
  rw [View.canon_unit_zero offs_zero, View.readCov_unit_zero (S := S512x128) _ offs_zero,
    View.readCov_unit_zero (S := S512x1) _ offs_zero]
  simp only [View.readAt_eq_ld, h1.read_unread, h2.read_unread, h3.read_unread, h4.read_unread, h6.read_unread,
    h7.read_unread, View.ld_unit_zero (S := S2000x128) offs_zero, View.ld_unit_zero (S := S2000x1) offs_zero,
    View.ld_unit_zero (S := S128x1) offs_zero, View.ld_unit_zero (S := S1x1) offs_zero,
    View.ld_unit_zero (S := S512x128) offs_zero, View.ld_unit_zero (S := S512x1) offs_zero]

end

end Cert.Pool

end
-- ==== Proof.PoolPay.lean ====
/- The kernel's payloads read at one element over the extended reals: a row's weight is the exponential of its gate, the
   membership block is one where a row's index word is the segment's number and zero elsewhere, the two running sums gain
   their block's members, and the output is the quotient of the two sums. -/
module

public import proofs.«01_k».proof.Proof.Gen.KernelIdeal.Skeleton
public import Idealize.ShloMosaic.Lib.Pointwise
public import Idealize.ShloMosaic.PureOps.Ideal.Laws

@[expose] public section

set_option maxRecDepth 16384

noncomputable section

namespace Cert.Pool

open Cert.KernelIdeal Cert.KernelIdeal.Gen Idealize.ShloMosaic
open scoped BigOperators

/-- A row's weight: the exponential of the row's product with the gate column, plus the gate's offset. -/
theorem weight_apply (x : Vec Ideal S2000x128 .f32) (W : Vec Ideal S128x1 .f32) (g : Vec Ideal S1x1 .f32) (r : Fin 2000) (o : Fin 1) :
    k0_pay4 (F := Ideal) x W g (ix2 r o) = Ideal.exp ((∑ k : Fin 128, x (ix2 r k) * W (ix2 k 0)) + g (ix2 0 0)) := by
  pointwise [k0_pay4]
  obtain rfl : o = 0 := Subsingleton.elim _ _
  rfl

/-- A row is a member of segment `s` exactly when its index word is the word of `s`. -/
theorem member_apply (b : Vec Ideal S2000x1 .i32) (r : Fin 2000) (s : Fin 512) :
    k0_pay5 (F := Ideal) b (ix2 r s) = if b (ix2 r 0) = BitVec.ofNat 32 s.val then 1 else 0 := by
  pointwise [k0_pay5]
  show (((BitVec.setWidth 32 (IntOp.cmpi CmpIPredicate.eq (b (ix2 r 0)) (BitVec.ofNat 32 s.val))).toInt : ℝ) : EReal) = _
  by_cases h : b (ix2 r 0) = BitVec.ofNat 32 s.val
  · rw [if_pos h, h]
    have e : IntOp.cmpi CmpIPredicate.eq (BitVec.ofNat 32 s.val) (BitVec.ofNat 32 s.val) = 1#1 := by simp [IntOp.cmpi]
    rw [e]
    have : (BitVec.setWidth 32 1#1).toInt = 1 := by decide
    rw [this]
    norm_num
  · rw [if_neg h]
    have e : IntOp.cmpi CmpIPredicate.eq (b (ix2 r 0)) (BitVec.ofNat 32 s.val) = 0#1 := by
      show BitVec.ofBool (b (ix2 r 0) == BitVec.ofNat 32 s.val) = 0#1
      rw [beq_eq_false_iff_ne.mpr h]
      rfl
    rw [e]
    have : (BitVec.setWidth 32 0#1).toInt = 0 := by decide
    rw [this]
    norm_num

/-- The weighted row sums gain, at each segment, the weighted entries of the block's members. -/
theorem rows_apply (x : Vec Ideal S2000x128 .f32) (b : Vec Ideal S2000x1 .i32) (W : Vec Ideal S128x1 .f32)
    (g : Vec Ideal S1x1 .f32) (acc : Vec Ideal S512x128 .f32) (s : Fin 512) (d : Fin 128) :
    k0_pay6 (F := Ideal) x b W g acc (ix2 s d)
      = acc (ix2 s d) + ∑ r : Fin 2000, k0_pay5 (F := Ideal) b (ix2 r s) * (k0_pay4 (F := Ideal) x W g (ix2 r 0) * x (ix2 r d)) := by
  pointwise [k0_pay6]

/-- The normalizers gain, at each segment, the weights of the block's members. -/
theorem norm_apply (x : Vec Ideal S2000x128 .f32) (b : Vec Ideal S2000x1 .i32) (W : Vec Ideal S128x1 .f32)
    (g : Vec Ideal S1x1 .f32) (den : Vec Ideal S512x1 .f32) (s : Fin 512) (o : Fin 1) :
    k0_pay7 (F := Ideal) x b W g den (ix2 s o)
      = den (ix2 s o) + ∑ r : Fin 2000, k0_pay5 (F := Ideal) b (ix2 r s) * k0_pay4 (F := Ideal) x W g (ix2 r 0) := by
  pointwise [k0_pay7]
  obtain rfl : o = 0 := Subsingleton.elim _ _
  rfl

/-- The output is a segment's weighted row sum divided by its normalizer plus the small constant. -/
theorem quot_apply (acc : Vec Ideal S512x128 .f32) (den : Vec Ideal S512x1 .f32) (s : Fin 512) (d : Fin 128) :
    k0_pay1 (F := Ideal) acc den (ix2 s d)
      = Ideal.div (acc (ix2 s d)) (den (ix2 s 0) + Ideal.ofBits .f32 0x24E69595#32) := by
  pointwise [k0_pay1]

/-- The block the row accumulator is reset to is zero. -/
theorem zero_rows_apply (s : Fin 512) (d : Fin 128) : k0_pay2 (F := Ideal) (ix2 s d) = 0 := by
  pointwise [k0_pay2]

/-- The column the normalizer is reset to is zero. -/
theorem zero_norm_apply (s : Fin 512) (o : Fin 1) : k0_pay3 (F := Ideal) (ix2 s o) = 0 := by
  pointwise [k0_pay3]

end Cert.Pool

end
-- ==== Proof.PoolBlocks.lean ====
/- The kernel's four input blocks at a grid point, read at one element of the argument arrays: point `t` sees rows
   `2000 t` to `2000 t + 1999` of the nodes and of their index words, and the whole of the gate column and offset. -/
module

public import proofs.«01_k».proof.Proof.Gen.KernelIdeal.Frame.Runs
public import Idealize.ShloMosaic.Lib.Pipeline.ValueKit
public import Idealize.ShloMosaic.Lib.Pointwise

@[expose] public section

set_option maxRecDepth 16384

noncomputable section

namespace Cert.Pool

open Cert.KernelIdeal Cert.KernelIdeal.Gen Idealize.ShloMosaic Idealize.ShloMosaic.TcCoe Idealize.SL.Sem

/-- Where each input window's block sits at grid point `t`, in blocks. -/
theorem win_index : ∀ t : Fin cfg0.N, win0_0.index t = ![t.val, 0] ∧ win0_1.index t = ![t.val, 0]
    ∧ win0_2.index t = ![0, 0] ∧ win0_3.index t = ![0, 0] := by decide +kernel

variable {F : FTy → Type} [FloatOps F]
variable (m : (ℓ : Loc nD τ sig) → Buf (Elt F) ℓ) (c : Dev nD)

/-- Row `2000 t + r` is a row of the arrays. -/
theorem row_lt (t : Fin cfg0.N) (r : Fin 2000) : 2000 * t.val + r.val < 100000 := by
  have ht : t.val < 50 := Nat.lt_of_lt_of_eq t.isLt N_0
  have := r.isLt
  omega

/-- The node block of point `t` holds at `(r, k)` the node array's entry `(2000 t + r, k)`. -/
theorem block_nodes (t : Fin cfg0.N) (r : Fin 2000) (k : Fin 128) :
    (iblk m c 0 t : Vec F S2000x128 .f32) (ix2 r k)
      = (m ((c : Thread nD τ).loc main_arg0) : Vec F S100000x128 .f32) (ix2 ⟨2000 * t.val + r.val, row_lt t r⟩ k) := by
  have e := (win_index t).1
  unfold iblk
  rw [View.read_apply]
  show V m c main_arg0 _ = _
  rw [V_main_arg0]
  blk_ext [e]

/-- The index block of point `t` holds at `(r, 0)` the index word of row `2000 t + r`. -/
theorem block_ids (t : Fin cfg0.N) (r : Fin 2000) :
    (iblk m c 1 t : Vec F S2000x1 .i32) (ix2 r 0)
      = (m ((c : Thread nD τ).loc main_arg1) : Vec F S100000 .i32) (ix1 ⟨2000 * t.val + r.val, row_lt t r⟩) := by
  have e := (win_index t).2.1
  blk_ext! [iblk, V, e]

/-- The gate column's block is the column. -/
theorem block_gate (t : Fin cfg0.N) (k : Fin 128) :
    (iblk m c 2 t : Vec F S128x1 .f32) (ix2 k 0) = (m ((c : Thread nD τ).loc main_arg2) : Vec F S128x1 .f32) (ix2 k 0) := by
  have e := (win_index t).2.2.1
  blk_ext! [iblk, V, e]

/-- The offset's block is the offset. -/
theorem block_offset (t : Fin cfg0.N) :
    (iblk m c 3 t : Vec F S1x1 .f32) (ix2 0 0) = (m ((c : Thread nD τ).loc main_arg3) : Vec F S1 .f32) (ix1 0) := by
  have e := (win_index t).2.2.2
  blk_ext! [iblk, V, e]

end Cert.Pool

end
-- ==== Proof.PoolSpec.lean ====
/- The segment-wise softmax-weighted sum as a function of the four arrays, on the extended reals: what both the kernel and
   the reference are shown to compute. No program is named here. -/
module

public import Idealize.ShloMosaic.PureOps.Ideal.Laws

@[expose] public section

noncomputable section

namespace Cert.Pool

open Idealize.ShloMosaic
open scoped BigOperators

/-- The gate of row `i`: its product with the gate column plus the offset. -/
def gate (x : Fin 100000 → Fin 128 → EReal) (W : Fin 128 → EReal) (g : EReal) (i : Fin 100000) : EReal :=
  (∑ k : Fin 128, x i k * W k) + g

/-- The rows of segment `s`: those whose index word is the word of `s`. -/
def members (ids : Fin 100000 → BitVec 32) (s : Fin 512) : Finset (Fin 100000) :=
  Finset.univ.filter fun i => ids i = BitVec.ofNat 32 s.val

/-- The pooled value of segment `s` in column `d`: the members' rows weighted by the exponentials of their gates, summed,
    over the sum of those weights plus the small constant. -/
def pooled (x : Fin 100000 → Fin 128 → EReal) (ids : Fin 100000 → BitVec 32) (W : Fin 128 → EReal) (g : EReal)
    (s : Fin 512) (d : Fin 128) : EReal :=
  Ideal.div (∑ i ∈ members ids s, Ideal.exp (gate x W g i) * x i d)
    ((∑ i ∈ members ids s, Ideal.exp (gate x W g i)) + Ideal.ofBits .f32 0x24E69595#32)

end Cert.Pool

end
-- ==== Proof.PoolMath.lean ====
/- Arithmetic on the extended reals for a softmax-weighted sum: shifting every score of a segment by one real number
   multiplies each weight by one positive real, and a positive real common to a weight and its normalizer cancels. No
   program is named here. -/
module

public import Idealize.ShloMosaic.PureOps.Ideal.Laws
public import Idealize.ShloMosaic.Lib.IdealHost

@[expose] public section

namespace Cert.Pool

open Idealize.ShloMosaic
open scoped BigOperators

/-- The exponential of an extended real is never negative. -/
theorem exp_nonneg (g : EReal) : 0 ≤ Ideal.exp g := by
  induction g using EReal.rec with
  | bot => exact le_refl _
  | top => exact le_top
  | coe r => exact EReal.coe_nonneg.mpr (Real.exp_pos r).le

/-- Subtracting a real number from a score multiplies its exponential by one positive real; infinite scores included. -/
theorem exp_sub_real (g : EReal) (r : ℝ) : Ideal.exp (g - (r : EReal)) = Ideal.exp g * ((Real.exp (-r) : ℝ) : EReal) := by
  have hp : (0 : EReal) < ((Real.exp (-r) : ℝ) : EReal) := EReal.coe_pos.mpr (Real.exp_pos _)
  induction g using EReal.rec with
  | bot =>
    rw [EReal.bot_sub]
    show (0 : EReal) = 0 * _
    rw [zero_mul]
  | top =>
    rw [EReal.top_sub_coe]
    show (⊤ : EReal) = ⊤ * _
    rw [EReal.top_mul_of_pos hp]
  | coe s =>
    rw [← EReal.coe_sub]
    show ((Real.exp (s - r) : ℝ) : EReal) = ((Real.exp s : ℝ) : EReal) * _
    rw [← EReal.coe_mul, ← Real.exp_add, sub_eq_add_neg]

/-- The exponential of a real number's negation, as the real exponential. -/
theorem exp_neg_real (r : ℝ) : Ideal.exp (-(r : EReal)) = ((Real.exp (-r) : ℝ) : EReal) := by
  rw [← EReal.coe_neg]; rfl

/-- A factor that is neither negative nor `⊤` distributes over a finite sum of extended reals. -/
theorem sum_mul_right {ι : Type} (S : Finset ι) (f : ι → EReal) (c : EReal) (h0 : 0 ≤ c) (ht : c ≠ ⊤) :
    ∑ i ∈ S, f i * c = (∑ i ∈ S, f i) * c := by
  classical
  induction S using Finset.induction_on with
  | empty => simp
  | insert a S ha ih =>
    rw [Finset.sum_insert ha, Finset.sum_insert ha, ih, mul_comm (f a + _) c,
      EReal.left_distrib_of_nonneg_of_ne_top h0 ht, mul_comm c, mul_comm c]

/-- A positive real common to the numerator and the divisor of a quotient cancels, when the divisor is positive. -/
theorem div_mul_cancel (w e : EReal) (r : ℝ) (hr : 0 < r) (he : 0 < e) :
    Ideal.div (w * (r : EReal)) (e * (r : EReal)) = Ideal.div w e := by
  have hr' : (r : EReal) ≠ 0 := by
    intro h; exact hr.ne' (EReal.coe_eq_zero.mp h)
  unfold Ideal.div
  rw [if_neg (mul_ne_zero he.ne' hr'), if_neg he.ne', EReal.mul_inv]
  have h1 : (r : EReal) * (r : EReal)⁻¹ = 1 := by
    rw [← EReal.coe_inv, ← EReal.coe_mul, mul_inv_cancel₀ hr.ne']; rfl
  calc w * (r : EReal) * (e⁻¹ * (r : EReal)⁻¹) = w * e⁻¹ * ((r : EReal) * (r : EReal)⁻¹) := by
        rw [mul_assoc, mul_assoc]; congr 1
        rw [mul_comm e⁻¹, ← mul_assoc, mul_comm _ e⁻¹]
    _ = w * e⁻¹ := by rw [h1, mul_one]

/-- Dividing each weight by one positive number and then summing the weighted rows is summing first and dividing after. -/
theorem sum_div_mul {ι : Type} (S : Finset ι) (w x : ι → EReal) (e : EReal) (he : 0 < e) :
    ∑ i ∈ S, Ideal.div (w i) e * x i = Ideal.div (∑ i ∈ S, w i * x i) e := by
  have hi : 0 ≤ e⁻¹ := EReal.inv_nonneg_of_nonneg he.le
  have ht : e⁻¹ ≠ ⊤ := by
    induction e using EReal.rec with
    | bot => simp
    | top => simp
    | coe r => rw [← EReal.coe_inv]; exact EReal.coe_ne_top _
  unfold Ideal.div
  simp only [if_neg he.ne']
  rw [← sum_mul_right S _ _ hi ht]
  refine Finset.sum_congr rfl fun i _ => ?_
  rw [mul_assoc, mul_comm e⁻¹, ← mul_assoc]

/-- A segment's softmax-weighted sum does not depend on the real number its scores are shifted by, when the number
    added to the normalizer is scaled by the same factor: the shifted weights over the shifted, scaled normalizer,
    summed against the rows, are the unshifted sums divided once. -/
theorem pooled_eq {ι : Type} (S : Finset ι) (g x : ι → EReal) (ε : EReal) (hε : 0 < ε) (r : ℝ) :
    ∑ i ∈ S, Ideal.div (Ideal.exp (g i - (r : EReal)))
        ((0 + ∑ k ∈ S, Ideal.exp (g k - (r : EReal))) + ε * Ideal.exp (-(r : EReal))) * x i
      = Ideal.div (∑ i ∈ S, Ideal.exp (g i) * x i) ((∑ i ∈ S, Ideal.exp (g i)) + ε) := by
  have hr : 0 < Real.exp (-r) := Real.exp_pos _
  have hD : 0 ≤ ∑ i ∈ S, Ideal.exp (g i) := Finset.sum_nonneg fun i _ => exp_nonneg _
  have he : 0 < (∑ i ∈ S, Ideal.exp (g i)) + ε := lt_of_lt_of_le hε (le_add_of_nonneg_left hD)
  simp only [exp_sub_real, exp_neg_real, zero_add]
  rw [sum_mul_right S _ _ (EReal.coe_nonneg.mpr hr.le) (EReal.coe_ne_top _), ← sum_div_mul S _ _ _ he]
  refine Finset.sum_congr rfl fun i _ => ?_
  rw [← EReal.right_distrib_of_nonneg hD hε.le, div_mul_cancel _ _ _ hr he]

/-- A sum over all rows in which a row outside a set counts zero times is the sum over the set. -/
theorem sum_indicator {ι : Type} [Fintype ι] (p : ι → Prop) [DecidablePred p] (f : ι → EReal) :
    ∑ i, (if p i then (1 : EReal) else 0) * f i = ∑ i ∈ Finset.univ.filter p, f i := by
  rw [Finset.sum_filter]
  refine Finset.sum_congr rfl fun i _ => ?_
  split
  · rw [one_mul]
  · rw [zero_mul]

/-- The 32-bit pattern of the number added to a normalizer is a positive real. -/
theorem eps_pos : (0 : EReal) < Ideal.ofBits .f32 0x24E69595#32 := by
  simp [Ideal.ofBits, Ideal.ieee, -EReal.coe_mul]

end Cert.Pool
-- ==== Proof.PoolFold.lean ====
/- The kernel's result over the extended reals. After grid point `n` the two carried buffers hold the sums over the rows
   below `2000 (n + 1)`; the last point has seen every row, and the output is the segment-wise weighted sum. -/
module

public import proofs.«01_k».proof.Proof.PoolStep
public import proofs.«01_k».proof.Proof.PoolPay
public import proofs.«01_k».proof.Proof.PoolBlocks
public import proofs.«01_k».proof.Proof.PoolSpec
public import proofs.«01_k».proof.Proof.PoolMath

@[expose] public section

set_option maxRecDepth 16384

noncomputable section

namespace Cert.Pool

open Cert.KernelIdeal Cert.KernelIdeal.Gen Cert.KernelIdeal.Value
open Idealize.ShloMosaic Idealize.ShloMosaic.TcCoe Idealize.SL.Sem
open scoped BigOperators

variable (m : (ℓ : Loc nD τ sig) → Buf (Elt Ideal) ℓ) (c : Dev nD)

/-- The node array by rows and columns. -/
def nodes (i : Fin 100000) (k : Fin 128) : EReal := (m ((c : Thread nD τ).loc main_arg0) : Vec Ideal S100000x128 .f32) (ix2 i k)
/-- The index words by row. -/
def ids (i : Fin 100000) : BitVec 32 := (m ((c : Thread nD τ).loc main_arg1) : Vec Ideal S100000 .i32) (ix1 i)
/-- The gate column by row. -/
def gateCol (k : Fin 128) : EReal := (m ((c : Thread nD τ).loc main_arg2) : Vec Ideal S128x1 .f32) (ix2 k 0)
/-- The gate's offset. -/
def gateOff : EReal := (m ((c : Thread nD τ).loc main_arg3) : Vec Ideal S1 .f32) (ix1 0)

/-- Row `i`'s weight. -/
def weight (i : Fin 100000) : EReal := Ideal.exp (gate (nodes m c) (gateCol m c) (gateOff m c) i)

/-- What row number `i` contributes to segment `s`'s normalizer; nothing past the last row. -/
def normTerm (s : Fin 512) (i : ℕ) : EReal :=
  if h : i < 100000 then (if ids m c ⟨i, h⟩ = BitVec.ofNat 32 s.val then 1 else 0) * weight m c ⟨i, h⟩ else 0

/-- What row number `i` contributes to segment `s`'s weighted sum in column `d`; nothing past the last row. -/
def rowTerm (s : Fin 512) (d : Fin 128) (i : ℕ) : EReal :=
  if h : i < 100000 then
    (if ids m c ⟨i, h⟩ = BitVec.ofNat 32 s.val then 1 else 0) * (weight m c ⟨i, h⟩ * nodes m c ⟨i, h⟩ d)
  else 0

/-- Point `t`'s weight of its row `r` is the weight of row `2000 t + r`. -/
theorem weight_block (t : Fin cfg0.N) (r : Fin 2000) :
    k0_pay4 (F := Ideal) (iblk m c 0 t) (iblk m c 2 t) (iblk m c 3 t) (ix2 r 0)
      = weight m c ⟨2000 * t.val + r.val, row_lt t r⟩ := by
  refine (weight_apply _ _ _ r 0).trans ?_
  unfold weight gate nodes gateCol gateOff
  rw [block_offset]
  simp only [block_nodes, block_gate]

/-- Point `t`'s membership of its row `r` is that of row `2000 t + r`. -/
theorem member_block (t : Fin cfg0.N) (r : Fin 2000) (s : Fin 512) :
    k0_pay5 (F := Ideal) (iblk m c 1 t) (ix2 r s)
      = if ids m c ⟨2000 * t.val + r.val, row_lt t r⟩ = BitVec.ofNat 32 s.val then 1 else 0 := by
  refine (member_apply _ r s).trans ?_
  unfold ids
  rw [block_ids]

/-- Point `t` adds to the weighted sums the contributions of its 2000 rows. -/
theorem rows_point (t : Fin cfg0.N) (acc : Vec Ideal S512x128 .f32) (s : Fin 512) (d : Fin 128) :
    k0_pay6 (F := Ideal) (iblk m c 0 t) (iblk m c 1 t) (iblk m c 2 t) (iblk m c 3 t) acc (ix2 s d)
      = acc (ix2 s d) + ∑ r ∈ Finset.range 2000, rowTerm m c s d (2000 * t.val + r) := by
  refine (rows_apply _ _ _ _ acc s d).trans ?_
  rw [Finset.sum_range]
  congr 1
  refine Finset.sum_congr rfl fun r _ => ?_
  unfold rowTerm
  rw [dif_pos (row_lt t r), member_block, weight_block, block_nodes]
  rfl

/-- Point `t` adds to the normalizers the contributions of its 2000 rows. -/
theorem norm_point (t : Fin cfg0.N) (den : Vec Ideal S512x1 .f32) (s : Fin 512) :
    k0_pay7 (F := Ideal) (iblk m c 0 t) (iblk m c 1 t) (iblk m c 2 t) (iblk m c 3 t) den (ix2 s 0)
      = den (ix2 s 0) + ∑ r ∈ Finset.range 2000, normTerm m c s (2000 * t.val + r) := by
  refine (norm_apply _ _ _ _ den s 0).trans ?_
  rw [Finset.sum_range]
  congr 1
  refine Finset.sum_congr rfl fun r _ => ?_
  unfold normTerm
  rw [dif_pos (row_lt t r), member_block, weight_block]

/-- After a point that is not the last, the two carried buffers hold the sums over the rows seen so far. -/
theorem carried (n : ℕ) (hn : n < cfg0.N) (hl : n < 49) :
    (∀ s d, (outsAt0 m c n hn).2.1 (ix2 s d) = ∑ i ∈ Finset.range (2000 * (n + 1)), rowTerm m c s d i)
    ∧ ∀ s, (outsAt0 m c n hn).2.2 (ix2 s 0) = ∑ i ∈ Finset.range (2000 * (n + 1)), normTerm m c s i := by
  induction n with
  | zero =>
    rw [outsAt0_A m c ⟨0, hn⟩ (Nat.zero_mod _) (by decide : ¬(0 : ℕ) % 50 = 49)]
    dsimp only
    rw [rows_first, norm_first]
    constructor
    · intro s d
      rw [rows_point, zero_rows_apply, zero_add]
      refine Finset.sum_congr rfl fun r _ => ?_
      simp
    · intro s
      rw [norm_point, zero_norm_apply, zero_add]
      refine Finset.sum_congr rfl fun r _ => ?_
      simp
  | succ n ih =>
    have ih' := ih (Nat.lt_of_succ_lt hn) (Nat.lt_of_succ_lt hl)
    rw [outsAt0_B m c ⟨n + 1, hn⟩ (by show ¬(n + 1) % 50 = 0; omega) (by show ¬(n + 1) % 50 = 49; omega)]
    dsimp only
    rw [rows_middle, norm_middle]
    have e : 2000 * (n + 1 + 1) = 2000 * (n + 1) + 2000 := by omega
    constructor
    · intro s d
      rw [rows_point, e, Finset.sum_range_add]
      exact congrArg (· + _) (ih'.1 s d)
    · intro s
      rw [norm_point, e, Finset.sum_range_add]
      exact congrArg (· + _) (ih'.2 s)

/-- The weighted sum of all rows' contributions is the sum over the segment's members. -/
theorem rows_total (s : Fin 512) (d : Fin 128) :
    ∑ i ∈ Finset.range 100000, rowTerm m c s d i
      = ∑ i ∈ members (ids m c) s, weight m c i * nodes m c i d := by
  rw [Finset.sum_range]
  unfold members
  rw [← sum_indicator]
  refine Finset.sum_congr rfl fun i _ => ?_
  unfold rowTerm
  rw [dif_pos i.isLt]

/-- The sum of all rows' contributions to a normalizer is the sum of the members' weights. -/
theorem norm_total (s : Fin 512) :
    ∑ i ∈ Finset.range 100000, normTerm m c s i = ∑ i ∈ members (ids m c) s, weight m c i := by
  rw [Finset.sum_range]
  unfold members
  rw [← sum_indicator]
  refine Finset.sum_congr rfl fun i _ => ?_
  unfold normTerm
  rw [dif_pos i.isLt]

/-- The kernel's result array holds the pooled value of every segment in every column. -/
theorem kernel_pooled (s : Fin 512) (d : Fin 128) :
    G4 m c (ix2 s d) = pooled (nodes m c) (ids m c) (gateCol m c) (gateOff m c) s d := by
  have h49 : 49 < cfg0.N := lt_of_lt_of_eq (by decide) N_0.symm
  have e : G4 m c = (outsAt0 m c 49 h49).1 := (G4_last m c).trans (congrArg Prod.fst (outsAt0_sweep m c 49 h49).symm)
  rw [e, outsAt0_C m c ⟨49, h49⟩ (by decide : ¬(49 : ℕ) % 50 = 0) (by decide : (49 : ℕ) % 50 = 49)]
  dsimp only
  rw [out_last, quot_apply, rows_point, norm_point]
  obtain ⟨hr, hn⟩ := carried m c 48 (Nat.lt_of_succ_lt h49) (by decide)
  rw [show (outsAt0 m c (49 - 1) _).2.1 (ix2 s d) = _ from hr s d, show (outsAt0 m c (49 - 1) _).2.2 (ix2 s 0) = _ from hn s]
  have e1 : ∀ f : ℕ → EReal, ∑ i ∈ Finset.range (2000 * (48 + 1)), f i + ∑ r ∈ Finset.range 2000, f (2000 * 49 + r)
      = ∑ i ∈ Finset.range 100000, f i := fun f => (Finset.sum_range_add f 98000 2000).symm
  rw [e1, e1, rows_total, norm_total]
  rfl

end Cert.Pool

end
-- ==== Proof.PoolScatter.lean ====
/- A row-wise accumulating scatter read at one element: for `N` rows of width `B` and one index word per update row, the
   element at `(s, y)` gains the entries `y` of exactly those update rows whose word, read signed, is `s`. At any
   extents; no program is named here. -/
module

public import Idealize.ShloMosaic.PureOps.Ideal.Laws
public import Idealize.ShloMosaic.Lib.Routing.Ops
public import Idealize.ShloMosaic.Lib.Routing.OpsPair

@[expose] public section

namespace Cert.Pool

open Idealize.ShloMosaic Idealize.ShloMosaic.Routing Idealize.ShloMosaic.ValueIdx
open scoped BigOperators

/-- Update entry `(r, z)` lands at `(s, y)` exactly when row `r`'s index word, read signed, is `s` and `z` is `y`. -/
theorem lands_row {N B n : Nat} (d : ScatterDims (shape2 N B) (shape2 n 1) (shape2 n B)) (huw : d.updateWindowDims = [1])
    (hiw : d.insertedWindowDims = [0]) (hsd : d.scatterDimsToOperandDims = [0]) (hiv : d.indexVectorDim = 1)
    (idx : IVec (shape2 n 1) 32) (r : Fin n) (z : Fin B) (s : Fin N) (y : Fin B) :
    d.resultIdx? (ix2 r z) idx = some (ix2 s y) ↔ (idx (ix2 r (0 : Fin 1))).toInt = (s.val : Int) ∧ z = y := by
  have hm : (0 : Fin 2) ∈ d.scatterDimsToOperandDims := by rw [hsd]; exact List.mem_singleton.2 rfl
  have hkept : d.sKept = [1] := by
    show (shape2 N B).kept d.insertedWindowDims = _
    rw [hiw]
    rfl
  have at0 : ∀ X : Fin 2, X = 0 → (ix2 r z X).val = r.val := fun X h => by subst h; rfl
  have at1 : ∀ X : Fin 2, X = 1 → (ix2 r z X).val = z.val := fun X h => by subst h; rfl
  have hw0 : d.window (ix2 r z) 0 = 0 := by
    unfold ScatterDims.window
    rw [dif_neg (by rw [hkept]; intro h; exact absurd (List.mem_singleton.1 h) (show ¬(0 : Fin 2) = 1 from by decide))]
  have hw1 : d.window (ix2 r z) 1 = z.val := by
    unfold ScatterDims.window
    rw [dif_pos (by rw [hkept]; exact List.mem_singleton.2 rfl)]
    have hk : ∀ k ∈ d.updateWindowDims, k = (1 : Fin 2) := fun k hk => by rw [huw] at hk; exact List.mem_singleton.1 hk
    exact at1 _ (hk _ (List.getElem_mem _))
  have hs1 : d.start (ix2 r z) idx 1 = 0 := by
    unfold ScatterDims.start
    rw [dif_neg (by rw [hsd]; intro h; exact absurd (List.mem_singleton.1 h) (show ¬(1 : Fin 2) = 0 from by decide))]
  have hs0 : d.start (ix2 r z) idx 0 = (idx (ix2 r (0 : Fin 1))).toInt := by
    unfold ScatterDims.start
    rw [dif_pos hm]
    have hsi : d.siIdx (ix2 r z) ⟨d.scatterDimsToOperandDims.idxOf 0, List.idxOf_lt_length_iff.2 hm⟩ = ix2 r (0 : Fin 1) := by
      funext b
      apply Fin.ext
      match b with
      | ⟨0, _⟩ =>
        unfold ScatterDims.siIdx
        rw [dif_neg (by rw [hiv]; exact Nat.zero_ne_one)]
        unfold ScatterDims.siCoord
        simp only [Fin.val_cast]
        refine at0 _ ?_
        have hk : ∀ k ∈ d.uScatter, k = (0 : Fin 2) := fun k hk => by
          have hk' : k ∉ d.updateWindowDims := of_decide_eq_true (List.mem_filter.1 hk).2
          rw [huw] at hk'
          have h1 : k.val ≠ 1 := fun e => hk' (List.mem_singleton.2 (Fin.ext e))
          have h2 : k.val < 2 := k.isLt
          exact Fin.ext (by show k.val = 0; omega)
        exact hk _ (List.getElem_mem _)
      | ⟨1, _⟩ =>
        unfold ScatterDims.siIdx
        rw [dif_pos (by rw [hiv])]
        show d.scatterDimsToOperandDims.idxOf 0 = 0
        rw [hsd]
        rfl
    rw [hsi]
  rw [resultIdx?_ix2, hw0, hw1, hs0, hs1]
  constructor
  · rintro ⟨h0, h1⟩
    exact ⟨by simpa using h0, Fin.ext (by simpa using h1)⟩
  · rintro ⟨h0, rfl⟩
    exact ⟨by simpa using h0, by simp⟩

/-- The accumulating scatter of rows, read at `(s, y)`: what was there plus the entries `y` of the update rows whose
    index word, read signed, is `s`. -/
theorem scatterAdd_row {N B n : Nat} (d : ScatterDims (shape2 N B) (shape2 n 1) (shape2 n B)) (huw : d.updateWindowDims = [1])
    (hiw : d.insertedWindowDims = [0]) (hsd : d.scatterDimsToOperandDims = [0]) (hiv : d.indexVectorDim = 1)
    (x : (shape2 N B).Idx → EReal) (idx : IVec (shape2 n 1) 32) (upd : (shape2 n B).Idx → EReal) (s : Fin N) (y : Fin B) :
    Ideal.hostScatterAdd d x idx upd (ix2 s y)
      = x (ix2 s y)
        + ∑ r ∈ Finset.univ.filter (fun r : Fin n => (idx (ix2 r (0 : Fin 1))).toInt = (s.val : Int)), upd (ix2 r y) := by
  unfold Ideal.hostScatterAdd
  congr 1
  refine Finset.sum_bij' (fun j _ => (j 0 : Fin n)) (fun r _ => ix2 r y) ?_ ?_ ?_ ?_ ?_
  · intro j hj
    have h := (Finset.mem_filter.1 hj).2
    obtain ⟨a, b, rfl⟩ : ∃ a b, j = ix2 a b := ⟨j 0, j 1, eq_ix2 j⟩
    exact Finset.mem_filter.2 ⟨Finset.mem_univ _, ((lands_row d huw hiw hsd hiv idx a b s y).1 h).1⟩
  · intro r hr
    exact Finset.mem_filter.2 ⟨Finset.mem_univ _,
      (lands_row d huw hiw hsd hiv idx r y s y).2 ⟨(Finset.mem_filter.1 hr).2, rfl⟩⟩
  · intro j hj
    have h := (Finset.mem_filter.1 hj).2
    obtain ⟨a, b, rfl⟩ : ∃ a b, j = ix2 a b := ⟨j 0, j 1, eq_ix2 j⟩
    obtain rfl := ((lands_row d huw hiw hsd hiv idx a b s y).1 h).2
    rfl
  · intro r _; rfl
  · intro j hj
    have h := (Finset.mem_filter.1 hj).2
    obtain ⟨a, b, rfl⟩ : ∃ a b, j = ix2 a b := ⟨j 0, j 1, eq_ix2 j⟩
    obtain rfl := ((lands_row d huw hiw hsd hiv idx a b s y).1 h).2
    rfl

end Cert.Pool
-- ==== Proof.PoolRef.lean ====
/- The reference's result read at one element. The shift it subtracts from a segment's gates is a real number, whatever
   the gates are, so it cancels (PoolMath); the gathers give a member row its own segment's shift and normalizer, and the
   accumulating scatters sum over the members (PoolScatter). -/
module

public import proofs.«01_k».proof.Proof.Gen.ReferenceIdeal.Read
public import proofs.«01_k».proof.Proof.PoolMath
public import proofs.«01_k».proof.Proof.PoolSpec
public import proofs.«01_k».proof.Proof.PoolScatter
public import Idealize.ShloMosaic.Lib.WordCmp

@[expose] public section

noncomputable section

namespace Cert.Pool.Ref

open Cert.Pool Cert.ReferenceIdeal Cert.ReferenceIdeal.Read Idealize.ShloMosaic Idealize.ShloMosaic.ValueIdx
open scoped BigOperators

variable (x0 : (⟨S100000x128, .f32⟩ : BufTy).Contents (Elt Ideal)) (x1 : (⟨S100000, .i32⟩ : BufTy).Contents (Elt Ideal))
  (x2 : (⟨S128x1, .f32⟩ : BufTy).Contents (Elt Ideal)) (x3 : (⟨S1, .f32⟩ : BufTy).Contents (Elt Ideal))

/-- The node features by row and column. -/
def rows (i : Fin 100000) (k : Fin 128) : EReal := x0 (ix2 i k)
/-- The index words by row. -/
def words (i : Fin 100000) : BitVec 32 := x1 (ix1 i)
/-- The gate column by row. -/
def col (k : Fin 128) : EReal := x2 (ix2 k 0)
/-- The gate's offset. -/
def off : EReal := x3 (ix1 0)

/-- A value kept only where its magnitude is below infinity, and zero elsewhere, is a real number. -/
theorem guarded_real (y : EReal) :
    ∃ r : ℝ, Scalar.select (Ideal.cmp .olt (max y (-y)) ⊤) y 0 = (r : EReal) := by
  induction y using EReal.rec with
  | bot => exact ⟨0, by simp [Ideal.cmp, Scalar.select]⟩
  | top => exact ⟨0, by simp [Ideal.cmp, Scalar.select]⟩
  | coe r =>
    refine ⟨r, ?_⟩
    have h : max (r : EReal) (-(r : EReal)) < ⊤ := by
      rw [← EReal.coe_neg]
      exact max_lt (EReal.coe_lt_top _) (EReal.coe_lt_top _)
    simp [Ideal.cmp, Scalar.select, h]

/-- The pattern of positive infinity denotes `⊤`. -/
theorem inf_bits : Ideal.ofBits .f32 0x7F800000#32 = ⊤ := by simp [Ideal.ofBits, Ideal.ieee]

/-- Every segment's shift is a real number. -/
theorem shift_real (s : Fin 512) :
    ∃ r : ℝ, val_main_v16 (F := Ideal) x0 x1 x2 x3 (ix2 s 0) = (r : EReal) := by
  obtain ⟨r, hr⟩ := guarded_real (val_main_v12 (F := Ideal) x0 x1 x2 x3 (ix2 s 0))
  refine ⟨r, Eq.trans ?_ hr⟩
  rw [val_main_v16_apply, val_main_v15_apply, val_main_v13_apply, val_main_v14_apply, val_main_call1_v1_apply,
    val_main_call1_v0_apply, val_main_cst_1_apply, val_main_cst_2_apply]
  generalize val_main_v12 (F := Ideal) x0 x1 x2 x3 (ix2 s 0) = y
  show Scalar.select (Ideal.cmp .olt (max y (-y)) (Ideal.ofBits .f32 0x7F800000#32)) y (Ideal.ofBits .f32 0x00000000#32) = _
  rw [inf_bits, Ideal.ofBits_zero_f32]

/-- The gate of a row. -/
theorem gate_apply (i : Fin 100000) :
    val_main_v3 (F := Ideal) x0 x2 x3 (ix2 i 0) = gate (rows x0) (col x2) (off x3) i := by
  rw [val_main_v3_apply, val_main_v0_apply, val_main_v2_apply, val_main_v1_apply]
  have el : ∀ k : Fin 128, lidx_main_v0 (ix2 i 0) k = ix2 i k := fun k => by
    funext a; match a with
    | ⟨0, _⟩ => rfl
    | ⟨1, _⟩ => rfl
  have er : ∀ k : Fin 128, ridx_main_v0 (ix2 i 0) k = ix2 k 0 := fun k => by
    funext a; match a with
    | ⟨0, _⟩ => rfl
    | ⟨1, _⟩ => rfl
  have eo : idx_main_v1 (idx_main_v2 (ix2 i 0)) = ix1 0 := by
    funext a; match a with
    | ⟨0, _⟩ => rfl
  simp only [el, er, eo]
  rfl

/-- The word of a member row of segment `s` is the word of `s`. -/
theorem word_of_member (s : Fin 512) (i : Fin 100000) (h : i ∈ members (words x1) s) :
    x1 (ix1 i) = BitVec.ofNat 32 s.val := (Finset.mem_filter.1 h).2

/-- The word of a segment's number has its own value. -/
theorem seg_toNat (s : Fin 512) : (BitVec.ofNat 32 s.val).toNat < 2 ^ (32 - 1) := by
  rw [BitVec.toNat_ofNat]
  have := s.isLt
  omega

/-- The rows whose word, read signed, is `s` are the members of `s`. -/
theorem filter_members (s : Fin 512) (f : Fin 100000 → BitVec 32) (hf : ∀ i, f i = words x1 i) :
    Finset.univ.filter (fun i : Fin 100000 => (f i).toInt = (s.val : Int)) = members (words x1) s := by
  unfold members
  refine Finset.filter_congr fun i _ => ?_
  have hs : (BitVec.ofNat 32 s.val).toInt = (s.val : Int) :=
    WordCmp.toInt_ofNat_of_lt (by have := s.isLt; show s.val < 2147483648; omega)
  rw [hf]
  exact ⟨fun h => BitVec.eq_of_toInt_eq (h.trans hs.symm), fun h => by rw [h]; exact hs⟩

/-- A member row gathers its own segment's entry of any table: the first index stage. -/
theorem index_shift (s : Fin 512) (i : Fin 100000) (h : i ∈ members (words x1) s) :
    val_main_v22 (F := Ideal) x1 (ix2 i 0) = BitVec.ofNat 32 s.val := by
  have e : idx_main_v22 (ix2 i 0) = ix1 i := by
    funext a; match a with
    | ⟨0, _⟩ => rfl
  rw [val_main_v22_apply, val_main_v21_apply, val_main_v18_apply, val_main_v17_apply, val_main_c_apply, e,
    word_of_member x1 s i h, Routing.wrap_of_lt _ _ (seg_toNat s)]

/-- The same for the index stage of the normalizer. -/
theorem index_norm (s : Fin 512) (i : Fin 100000) (h : i ∈ members (words x1) s) :
    val_main_v34 (F := Ideal) x1 (ix2 i 0) = BitVec.ofNat 32 s.val := by
  have e : idx_main_v34 (ix2 i 0) = ix1 i := by
    funext a; match a with
    | ⟨0, _⟩ => rfl
  rw [val_main_v34_apply, val_main_v33_apply, val_main_v30_apply, val_main_v29_apply, val_main_c_5_apply, e,
    word_of_member x1 s i h, Routing.wrap_of_lt _ _ (seg_toNat s)]

/-- The same for the index stage of the scale of the small constant. -/
theorem index_scale (s : Fin 512) (i : Fin 100000) (h : i ∈ members (words x1) s) :
    val_main_v41 (F := Ideal) x1 (ix2 i 0) = BitVec.ofNat 32 s.val := by
  have e : idx_main_v41 (ix2 i 0) = ix1 i := by
    funext a; match a with
    | ⟨0, _⟩ => rfl
  rw [val_main_v41_apply, val_main_v40_apply, val_main_v37_apply, val_main_v36_apply, val_main_c_7_apply, e,
    word_of_member x1 s i h, Routing.wrap_of_lt _ _ (seg_toNat s)]

/-- A row gather of a one-column table reads the entry its word names. -/
theorem gather_entry (x : S512x1.Idx → EReal) (idx : IVec S100000x1 32) (s : Fin 512) (i : Fin 100000)
    (h : idx (ix2 i 0) = BitVec.ofNat 32 s.val) :
    Host.gather gather_S512x1_S100000x1_S100000x1_1_0_n_n_0_1_11 x idx (ix2 i 0) = x (ix2 s 0) :=
  Routing.gather_row _ rfl rfl rfl rfl rfl x idx i 0 s h (by decide)

/-- A member's shifted weight. -/
theorem weight_apply (s : Fin 512) (r : ℝ) (hr : val_main_v16 (F := Ideal) x0 x1 x2 x3 (ix2 s 0) = (r : EReal))
    (i : Fin 100000) (h : i ∈ members (words x1) s) :
    val_main_v25 (F := Ideal) x0 x1 x2 x3 (ix2 i 0) = Ideal.exp (gate (rows x0) (col x2) (off x3) i - (r : EReal)) := by
  rw [val_main_v25_apply, val_main_v24_apply, gate_apply]
  unfold val_main_v23
  rw [gather_entry _ _ s i (index_shift x1 s i h), hr]
  rfl

/-- A segment's normalizer: zero plus its members' shifted weights. -/
theorem norm_apply (s : Fin 512) (r : ℝ) (hr : val_main_v16 (F := Ideal) x0 x1 x2 x3 (ix2 s 0) = (r : EReal)) :
    val_main_v28 (F := Ideal) x0 x1 x2 x3 (ix2 s 0)
      = 0 + ∑ i ∈ members (words x1) s, Ideal.exp (gate (rows x0) (col x2) (off x3) i - (r : EReal)) := by
  have e : ∀ i : Fin 100000, val_main_v27 (F := Ideal) x1 (ix2 i 0) = words x1 i := fun i => by
    rw [val_main_v27_apply]
    refine congrArg x1 ?_
    funext a; match a with
    | ⟨0, _⟩ => rfl
  refine (scatterAdd_row scatter_S512x1_S100000x1_S100000x1_1_0_0_1 rfl rfl rfl rfl _ _ _ s 0).trans ?_
  rw [val_main_v26_apply, val_main_cst_4_apply,
    filter_members x1 s (fun i => val_main_v27 (F := Ideal) x1 (ix2 i 0)) e]
  refine congrArg₂ (· + ·) Ideal.ofBits_zero_f32 (Finset.sum_congr rfl fun i hi => ?_)
  exact weight_apply x0 x1 x2 x3 s r hr i hi

/-- A member's coefficient: its shifted weight over the normalizer plus the scaled small constant. -/
theorem coeff_apply (s : Fin 512) (r : ℝ) (hr : val_main_v16 (F := Ideal) x0 x1 x2 x3 (ix2 s 0) = (r : EReal))
    (i : Fin 100000) (h : i ∈ members (words x1) s) :
    val_main_v48 (F := Ideal) x0 x1 x2 x3 (ix2 i 0)
      = Ideal.div (Ideal.exp (gate (rows x0) (col x2) (off x3) i - (r : EReal)))
          ((0 + ∑ k ∈ members (words x1) s, Ideal.exp (gate (rows x0) (col x2) (off x3) k - (r : EReal)))
            + Ideal.ofBits .f32 0x24E69595#32 * Ideal.exp (-(r : EReal))) := by
  rw [val_main_v48_apply, val_main_v47_apply, val_main_v46_apply, val_main_v45_apply, val_main_v44_apply,
    val_main_v43_apply, val_main_cst_9_apply, weight_apply x0 x1 x2 x3 s r hr i h]
  unfold val_main_v35 val_main_v42
  rw [gather_entry _ _ s i (index_norm x1 s i h), gather_entry _ _ s i (index_scale x1 s i h), hr,
    norm_apply x0 x1 x2 x3 s r hr]
  rfl

/-- The reference's result array holds the pooled value of every segment in every column. -/
theorem reference_pooled (s : Fin 512) (d : Fin 128) :
    val_main_v53 (F := Ideal) x0 x1 x2 x3 (ix2 s d) = pooled (rows x0) (words x1) (col x2) (off x3) s d := by
  obtain ⟨r, hr⟩ := shift_real x0 x1 x2 x3 s
  have e : ∀ i : Fin 100000, val_main_v52 (F := Ideal) x1 (ix2 i 0) = words x1 i := fun i => by
    rw [val_main_v52_apply]
    refine congrArg x1 ?_
    funext a; match a with
    | ⟨0, _⟩ => rfl
  have ed : ∀ i : Fin 100000, idx_main_v49 (ix2 i d) = ix2 i 0 := fun i => by
    funext a; match a with
    | ⟨0, _⟩ => rfl
    | ⟨1, _⟩ => rfl
  refine (scatterAdd_row scatter_S512x128_S100000x1_S100000x128_1_0_0_1 rfl rfl rfl rfl _ _ _ s d).trans ?_
  rw [val_main_v51_apply, val_main_cst_10_apply,
    filter_members x1 s (fun i => val_main_v52 (F := Ideal) x1 (ix2 i 0)) e]
  unfold pooled
  rw [← pooled_eq _ _ _ _ eps_pos r]
  refine (congrArg₂ (· + ·) Ideal.ofBits_zero_f32 (Finset.sum_congr rfl fun i hi => ?_)).trans (zero_add _)
  rw [val_main_v50_apply, val_main_v49_apply, ed, coeff_apply x0 x1 x2 x3 s r hr i hi]
  rfl

end Cert.Pool.Ref

end
-- ==== Proof.lean ====
/- The claims, proved. The kernel runs and leaves the pooled value of every segment (Proof/PoolFold); so does the reference
   (Proof/PoolRef); on equal arguments the two results are therefore one array. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.PoolFold
public import proofs.«01_k».proof.Proof.PoolRef
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, keeps its arguments, and ends with every counter at zero: it declares none. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On equal arguments the kernel's result array is the reference's: both hold the pooled value of each segment. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨h0, h1, h2, h3⟩ := hagree c
  rw [Cert.ReferenceIdeal.Read.val_main_v53_eq, h0, h1, h2, h3]
  funext j
  rw [ValueIdx.eq_ix2 j]
  exact (Cert.Pool.Ref.reference_pooled _ _ _ _ (j 0) (j 1)).trans (Cert.Pool.kernel_pooled m c (j 0) (j 1)).symm

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
